-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x8192 : Shape := ⟨3, ![192, 1, 8192]⟩
abbrev S192x1x1 : Shape := ⟨3, ![192, 1, 1]⟩
abbrev S16384x8192 : Shape := ⟨2, ![16384, 8192]⟩
abbrev S16384 : Shape := ⟨1, ![16384]⟩
abbrev S192x8192 : Shape := ⟨2, ![192, 8192]⟩
abbrev S192x1 : Shape := ⟨2, ![192, 1]⟩
abbrev S1x16384 : Shape := ⟨2, ![1, 16384]⟩
abbrev S192x16384 : Shape := ⟨2, ![192, 16384]⟩
abbrev S1024x8192 : Shape := ⟨2, ![1024, 8192]⟩
abbrev S1x1024 : Shape := ⟨2, ![1, 1024]⟩
abbrev S192x1024 : Shape := ⟨2, ![192, 1024]⟩
abbrev S192x1x16384 : Shape := ⟨3, ![192, 1, 16384]⟩

abbrev nBuf : Space → Nat
  | .hbm => 9
  | .vmem => 8
  | .smem => 0
  | _ => 0

abbrev bufTy : (tb : Table) → Fin (tcTables nBuf tb) → BufTy
  | .hbm, ⟨0, _⟩ => ⟨S192x1x8192, .fp8e4m3⟩
  | .hbm, ⟨1, _⟩ => ⟨S192x1x1, .f32⟩
  | .hbm, ⟨2, _⟩ => ⟨S16384x8192, .fp8e4m3⟩
  | .hbm, ⟨3, _⟩ => ⟨S16384, .f32⟩
  | .hbm, ⟨4, _⟩ => ⟨S192x8192, .fp8e4m3⟩
  | .hbm, ⟨5, _⟩ => ⟨S192x1, .f32⟩
  | .hbm, ⟨6, _⟩ => ⟨S1x16384, .f32⟩
  | .hbm, ⟨7, _⟩ => ⟨S192x16384, .bf16⟩
  | .hbm, ⟨8, _⟩ => ⟨S192x1x16384, .bf16⟩
  | .local _ .vmem, ⟨0, _⟩ => ⟨S192x8192, .fp8e4m3⟩
  | .local _ .vmem, ⟨1, _⟩ => ⟨S192x1, .f32⟩
  | .local _ .vmem, ⟨2, _⟩ => ⟨S1024x8192, .fp8e4m3⟩
  | .local _ .vmem, ⟨3, _⟩ => ⟨S1024x8192, .fp8e4m3⟩
  | .local _ .vmem, ⟨4, _⟩ => ⟨S1x1024, .f32⟩
  | .local _ .vmem, ⟨5, _⟩ => ⟨S1x1024, .f32⟩
  | .local _ .vmem, ⟨6, _⟩ => ⟨S192x1024, .bf16⟩
  | .local _ .vmem, ⟨7, _⟩ => ⟨S192x1024, .bf16⟩
  | _, _ => ⟨S192x1x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S192x1x8192 : Shape := ⟨3, ![192, 1, 8192]⟩
abbrev S192x1x1 : Shape := ⟨3, ![192, 1, 1]⟩
abbrev S16384x8192 : Shape := ⟨2, ![16384, 8192]⟩
abbrev S16384 : Shape := ⟨1, ![16384]⟩
abbrev S192x1x16384 : Shape := ⟨3, ![192, 1, 16384]⟩
abbrev S1x1x16384 : Shape := ⟨3, ![1, 1, 16384]⟩

abbrev nBuf : Space → Nat
  | .hbm => 5
  | .vmem => 5
  | .smem => 0
  | _ => 0

abbrev bufTy : (tb : Table) → Fin (tcTables nBuf tb) → BufTy
  | .hbm, ⟨0, _⟩ => ⟨S192x1x8192, .fp8e4m3⟩
  | .hbm, ⟨1, _⟩ => ⟨S192x1x1, .f32⟩
  | .hbm, ⟨2, _⟩ => ⟨S16384x8192, .fp8e4m3⟩
  | .hbm, ⟨3, _⟩ => ⟨S16384, .f32⟩
  | .hbm, ⟨4, _⟩ => ⟨S192x1x16384, .bf16⟩
  | .local _ .vmem, ⟨0, _⟩ => ⟨S192x1x8192, .fp8e4m3⟩
  | .local _ .vmem, ⟨1, _⟩ => ⟨S192x1x1, .f32⟩
  | .local _ .vmem, ⟨2, _⟩ => ⟨S16384x8192, .fp8e4m3⟩
  | .local _ .vmem, ⟨3, _⟩ => ⟨S16384, .f32⟩
  | .local _ .vmem, ⟨4, _⟩ => ⟨S192x1x16384, .bf16⟩
  | _, _ => ⟨S192x1x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S192x1x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x1x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Blocks.lean ====
/-
  The mathematics of the layer, and what each of the two bodies computes of it, over the extended reals.
  One entry of the result is the gelu of a dot product scaled by the row's scale and the column's scale. The kernel's body
  computes that for the entries of one block of 1024 columns; the reference's body computes it for the whole array.
-/
module

public import proofs.«01_k».proof.Proof.Gen.KernelIdeal.Skeleton
public import proofs.«01_k».proof.Proof.Gen.ReferenceIdeal.Skeleton
public import Idealize.ShloMosaic.Lib.Pointwise

@[expose] public section

noncomputable section

namespace Cert.Proof

open Idealize.ShloMosaic

/-- The tanh form of gelu on an extended real: `z · (½ · (1 + tanh (c · (z + d · z³))))`, the constants `½`, `c` and `d`
    being the values of the binary32 words that both programs hold. -/
def gelu (z : EReal) : EReal :=
  z * (Ideal.ofBits FTy.f32 1056964608#32 *
    (1 + Ideal.tanh (Ideal.ofBits FTy.f32 1061962282#32 * (z + Ideal.ofBits FTy.f32 1027024659#32 * (z * (z * z))))))

/-- One entry of the layer: the gelu of the dot product of a row of codes with a row of weight codes, times the row's
    scale, times the output channel's scale. -/
def entry (x w : Fin 8192 → EReal) (xs ws : EReal) : EReal :=
  gelu ((∑ k, x k * w k) * xs * ws)

/-- What the kernel's body stores, at row `r` and column `n` of its block: the layer's entry of row `r` of the codes,
    row `n` of the weight block, and the two scales there. -/
theorem block_apply (x : Vec Ideal Cert.KernelIdeal.S192x8192 .fp8e4m3) (w : Vec Ideal Cert.KernelIdeal.S1024x8192 .fp8e4m3)
    (xs : Vec Ideal Cert.KernelIdeal.S192x1 .f32) (ws : Vec Ideal Cert.KernelIdeal.S1x1024 .f32) (r : Fin 192) (n : Fin 1024) :
    Cert.KernelIdeal.Gen.k0_pay1 x w xs ws (ix2 r n)
      = entry (fun k => x (ix2 r k)) (fun k => w (ix2 n k)) (xs (ix2 r 0)) (ws (ix2 0 n)) := by
  pointwise [Cert.KernelIdeal.Gen.k0_pay1, Cert.KernelIdeal.dot_S192x8192_S1024x8192_S192x1024_1_1_0_0_n_n]
  rfl

/-- What the reference's body stores, at token `r` and output channel `n`: the layer's entry of that token's codes, that
    channel's weight codes, and their scales. -/
theorem plain_apply (x : Vec Ideal Cert.ReferenceIdeal.S192x1x8192 .fp8e4m3) (w : Vec Ideal Cert.ReferenceIdeal.S16384x8192 .fp8e4m3)
    (xs : Vec Ideal Cert.ReferenceIdeal.S192x1x1 .f32) (ws : Vec Ideal Cert.ReferenceIdeal.S16384 .f32)
    (r : Fin 192) (q : Fin 1) (n : Fin 16384) :
    Cert.ReferenceIdeal.Gen.k0_pay1 x w xs ws (ix3 r q n)
      = entry (fun k => x (ix3 r q k)) (fun k => w (ix2 n k)) (xs (ix3 r 0 0)) (ws (ix1 n)) := by
  pointwise [Cert.ReferenceIdeal.Gen.k0_pay1, Cert.ReferenceIdeal.dot_S192x1x8192_S16384x8192_S192x1x16384_2_1_01_0_n_n]
  rfl

end Cert.Proof

end
-- ==== Proof.Array.lean ====
/-
  What the kernel's output array holds after its sixteen grid points, and what the whole program's result holds: the region's
  blocks put together, and the host's reshapes before and after the region read.
-/
module

public import proofs.«01_k».proof.Proof.Blocks
public import proofs.«01_k».proof.Proof.Gen.KernelIdeal.Frame
public import Idealize.ShloMosaic.Lib.Pipeline.Value

@[expose] public section

noncomputable section

namespace Cert.KernelIdeal.Array

open Cert.KernelIdeal Cert.KernelIdeal.Gen Idealize.ShloMosaic Idealize.ShloMosaic.TcCoe Idealize.SL.Sem
open Idealize.ShloMosaic.Pipeline (Dat)
open Cert.Proof (entry block_apply)

variable (m : (ℓ : Loc nD τ sig) → Buf (Elt Ideal) ℓ) (ρ : Dev nD → PrngReg)

/-! ## The region -/

/-- The region's output array as one function of its four input arrays: the layer's entry at every row and column. -/
def layer (x : Vec Ideal S192x8192 .fp8e4m3) (xs : Vec Ideal S192x1 .f32) (w : Vec Ideal S16384x8192 .fp8e4m3)
    (ws : Vec Ideal S1x16384 .f32) : Vec Ideal S192x16384 .bf16 := fun i =>
  entry (fun k => x (ix2 (i 0) k)) (fun k => w (ix2 (i 1) k)) (xs (ix2 (i 0) 0)) (ws (ix2 0 (i 1)))

/-- The block that each window holds at grid point `t`: the codes and their scales are whole; the weights' rows, their
    scales and the result's columns are block `t`. -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = t.val)
    ∧ (win0_4.index t (0 : Fin 2) = 0 ∧ win0_4.index t (1 : Fin 2) = t.val) :=
  (by decide +kernel : ∀ t : Fin grid0.N, _)

/-- Column `n` of block `t` is a column of the array. -/
theorem col_lt (t : Fin cfg0.N) (n : Fin 1024) : t.val * 1024 + n.val < 16384 := by
  have h : t.val < 16 := t.isLt
  omega

/-- The column of the array that is column `n` of block `t`. -/
def col (t : Fin cfg0.N) (n : Fin 1024) : Fin 16384 := ⟨t.val * 1024 + n.val, col_lt t n⟩

/-- The codes' block is the whole array of codes. -/
theorem iblk0_apply (c : Dev nD) (t : Fin cfg0.N) (r : Fin 192) (k : Fin 8192) :
    iblk m c 0 t (ix2 r k : S192x8192.Idx) = V m c main_v0 (ix2 r k : S192x8192.Idx) := by
  obtain ⟨⟨e0, e1⟩, -⟩ := idx_facts t
  show V m c main_v0 (((cfg0.win 0).blk t).view.emb (ix2 r k : S192x8192.Idx)) = _
  congr 1; funext a; apply Fin.ext
  match a with
  | ⟨0, _⟩ => show win0_0.index t (0 : Fin 2) * 192 + 1 * r.val = r.val; omega
  | ⟨1, _⟩ => show win0_0.index t (1 : Fin 2) * 8192 + 1 * k.val = k.val; omega

/-- The rows' scales' block is the whole array of them. -/
theorem iblk1_apply (c : Dev nD) (t : Fin cfg0.N) (r : Fin 192) :
    iblk m c 1 t (ix2 r 0 : S192x1.Idx) = V m c main_v1 (ix2 r 0 : S192x1.Idx) := by
  obtain ⟨-, ⟨e0, e1⟩, -⟩ := idx_facts t
  show V m c main_v1 (((cfg0.win 1).blk t).view.emb (ix2 r 0 : S192x1.Idx)) = _
  congr 1; funext a; apply Fin.ext
  match a with
  | ⟨0, _⟩ => show win0_1.index t (0 : Fin 2) * 192 + 1 * r.val = r.val; omega
  | ⟨1, _⟩ => show win0_1.index t (1 : Fin 2) * 1 + 1 * 0 = 0; omega

/-- Row `n` of the weights' block `t` is the weights' row of that column. -/
theorem iblk2_apply (c : Dev nD) (t : Fin cfg0.N) (n : Fin 1024) (k : Fin 8192) :
    iblk m c 2 t (ix2 n k : S1024x8192.Idx) = V m c main_arg2 (ix2 (col t n) k : S16384x8192.Idx) := by
  obtain ⟨-, -, ⟨e0, e1⟩, -⟩ := idx_facts t
  show V m c main_arg2 (((cfg0.win 2).blk t).view.emb (ix2 n k : S1024x8192.Idx)) = _
  congr 1; funext a; apply Fin.ext
  match a with
  | ⟨0, _⟩ => show win0_2.index t (0 : Fin 2) * 1024 + 1 * n.val = t.val * 1024 + n.val; omega
  | ⟨1, _⟩ => show win0_2.index t (1 : Fin 2) * 8192 + 1 * k.val = k.val; omega

/-- Entry `n` of the channels' scales' block `t` is the scale of that column. -/
theorem iblk3_apply (c : Dev nD) (t : Fin cfg0.N) (n : Fin 1024) :
    iblk m c 3 t (ix2 0 n : S1x1024.Idx) = V m c main_v2 (ix2 0 (col t n) : S1x16384.Idx) := by
  obtain ⟨-, -, -, ⟨e0, e1⟩, -⟩ := idx_facts t
  show V m c main_v2 (((cfg0.win 3).blk t).view.emb (ix2 0 n : S1x1024.Idx)) = _
  congr 1; funext a; apply Fin.ext
  match a with
  | ⟨0, _⟩ => show win0_3.index t (0 : Fin 2) * 1 + 1 * 0 = 0; omega
  | ⟨1, _⟩ => show win0_3.index t (1 : Fin 2) * 1024 + 1 * n.val = t.val * 1024 + n.val; omega

/-- Entry `(r, n)` of the result's block `t` is the array's entry at row `r` and that column. -/
theorem emb4 (t : Fin cfg0.N) (r : Fin 192) (n : Fin 1024) :
    ((cfg0.win 4).blk t).view.emb (ix2 r n : S192x1024.Idx) = (ix2 r (col t n) : S192x16384.Idx) := by
  obtain ⟨-, -, -, -, ⟨e0, e1⟩⟩ := idx_facts t
  funext a; apply Fin.ext
  match a with
  | ⟨0, _⟩ => show win0_4.index t (0 : Fin 2) * 192 + 1 * r.val = r.val; omega
  | ⟨1, _⟩ => show win0_4.index t (1 : Fin 2) * 1024 + 1 * n.val = t.val * 1024 + n.val; omega

theorem hz : (![0, 0] : Fin 2 → Nat) = fun _ => 0 := funext fun a => by fin_cases a <;> rfl

/-- The body's loads read its whole blocks, and its one store leaves its payload. -/
theorem out_eq (x : Vec Ideal S192x8192 .fp8e4m3) (xs : Vec Ideal S192x1 .f32) (w : Vec Ideal S1024x8192 .fp8e4m3)
    (ws : Vec Ideal S1x1024 .f32) : out0_4 x xs w ws = k0_pay1 x w xs ws := by
  unfold out0_4
  rw [View.canon_unit_zero hz, View.ld_unit_zero (S := S192x8192) hz _ x, View.ld_unit_zero (S := S1024x8192) hz _ w,
    View.ld_unit_zero (S := S192x1) hz _ xs, View.ld_unit_zero (S := S1x1024) hz _ ws]

/-- What grid point `t` writes back is block `t` of the layer of the region's input arrays. -/
theorem flushed_eq (c : Dev nD) (t : Fin cfg0.N) :
    (dats m 0 c).flushed 4 t = ((cfg0.win 4).blk t).view.read (Elt Ideal)
      (layer (V m c main_v0) (V m c main_v1) (V m c main_arg2) (V m c main_v2)) := by
  show (cfg0.win 4).cut (grid0.coords t) ((dats m 0 c).after 4 t) = _
  rw [after0_4, out_eq]
  funext j
  obtain ⟨r, n, rfl⟩ : ∃ (r : Fin 192) (n : Fin 1024), j = (ix2 r n : S192x1024.Idx) := ⟨j 0, j 1, eq_ix2 j⟩
  show k0_pay1 (iblk m c 0 t) (iblk m c 2 t) (iblk m c 1 t) (iblk m c 3 t) (ix2 r n)
    = layer (V m c main_v0) (V m c main_v1) (V m c main_arg2) (V m c main_v2) (((cfg0.win 4).blk t).view.emb (ix2 r n : S192x1024.Idx))
  rw [emb4, block_apply]
  simp only [iblk0_apply, iblk1_apply, iblk2_apply, iblk3_apply]
  rfl

/-- Every entry of the array is in the block of a grid point, the one of its column. -/
theorem covered (i : S192x16384.Idx) :
    ∃ t : Fin cfg0.N, (cfg0.win 4).flush t = true ∧ i ∈ ((cfg0.win 4).blk t).view.set := by
  obtain ⟨r, n, rfl⟩ : ∃ (r : Fin 192) (n : Fin 16384), i = (ix2 r n : S192x16384.Idx) := ⟨i 0, i 1, eq_ix2 i⟩
  have ht : n.val / 1024 < 16 := by omega
  have hn : n.val % 1024 < 1024 := by omega
  refine ⟨(⟨n.val / 1024, ht⟩ : Fin cfg0.N), flush0_4 _, ?_⟩
  have h := ((cfg0.win 4).blk (⟨n.val / 1024, ht⟩ : Fin cfg0.N)).view.emb_mem_set (ix2 r ⟨n.val % 1024, hn⟩ : S192x1024.Idx)
  rw [emb4] at h
  rwa [show col (⟨n.val / 1024, ht⟩ : Fin cfg0.N) ⟨n.val % 1024, hn⟩ = n from Fin.ext (by show n.val / 1024 * 1024 + n.val % 1024 = n.val; omega)] at h

/-- The region's output array after the run is the layer of its input arrays. -/
theorem final (c : Dev nD) : (dats m 0 c).arrAt 4 cfg0.N
    = layer (V m c main_v0) (V m c main_v1) (V m c main_arg2) (V m c main_v2) :=
  (dats m 0 c).arrAt_eq_of_cover 4 _ (fun t _ => flushed_eq m c t) covered

/-! ## The host's reshapes -/

/-- The region finds the codes with their axis of length one dropped, -/
theorem V_main_v0 (c : Dev nD) : V m c main_v0
    = shapeCast S192x8192 (m ((c : Thread nD τ).loc main_arg0)) shapeCasts_S192x1x8192_S192x8192 := by
  rfl

/-- the rows' scales so too, -/
theorem V_main_v1 (c : Dev nD) : V m c main_v1
    = shapeCast S192x1 (m ((c : Thread nD τ).loc main_arg1)) shapeCasts_S192x1x1_S192x1 := by
  rfl

/-- and the channels' scales as one row. -/
theorem V_main_v2 (c : Dev nD) : V m c main_v2
    = shapeCast S1x16384 (m ((c : Thread nD τ).loc main_arg3)) shapeCasts_S16384_S1x16384 := by
  rfl

/-- The program's result: the region's output array reshaped. -/
theorem tail_eq (c : Dev nD) : Pipeline.afterTail₀ cfgs (dats m) 0 (V0 m) [hostOps1] c main_v4
    = shapeCast S192x1x16384 ((dats m 0 c).arrAt 4 cfg0.N) shapeCasts_S192x16384_S192x1x16384 :=
  congrArg (fun A : Vec Ideal S192x16384 .bf16 => shapeCast S192x1x16384 A shapeCasts_S192x16384_S192x1x16384)
    (Pipeline.withArrays_arr spec0 launch0.win.arr_inj c (V0 m c) (fun w => (dats m 0 c).arrAt w cfg0.N) 4)

/-- The program's result as a function of its arguments. -/
def result (x : Vec Ideal S192x1x8192 .fp8e4m3) (xs : Vec Ideal S192x1x1 .f32) (w : Vec Ideal S16384x8192 .fp8e4m3)
    (ws : Vec Ideal S16384 .f32) : Vec Ideal S192x1x16384 .bf16 :=
  shapeCast S192x1x16384 (layer (shapeCast S192x8192 x shapeCasts_S192x1x8192_S192x8192)
    (shapeCast S192x1 xs shapeCasts_S192x1x1_S192x1) w (shapeCast S1x16384 ws shapeCasts_S16384_S1x16384))
    shapeCasts_S192x16384_S192x1x16384

/-- The program's result at an index: the layer's entry of that token's codes, that channel's weight codes, and their
    scales. -/
theorem result_apply (x : Vec Ideal S192x1x8192 .fp8e4m3) (xs : Vec Ideal S192x1x1 .f32) (w : Vec Ideal S16384x8192 .fp8e4m3)
    (ws : Vec Ideal S16384 .f32) (r : Fin 192) (q : Fin 1) (n : Fin 16384) :
    result x xs w ws (ix3 r q n)
      = entry (fun k => x (ix3 r q k)) (fun k => w (ix2 n k)) (xs (ix3 r 0 0)) (ws (ix1 n)) := by
  obtain rfl : q = 0 := Subsingleton.elim _ _
  pointwise [result, layer]

/-- The run: the result is `result` of the arguments, and the arguments end unchanged. -/
theorem run : θ_run (defs (F := Ideal)) (onTc (τ := τ) (main (F := Ideal))) ⟨m, fun _ => 0, ρ⟩ fun r => ∀ c : Dev nD,
    r.2.mem ((c.tc : Thread nD τ).loc main_v4)
      = result (m ((c : Thread nD τ).loc main_arg0)) (m ((c : Thread nD τ).loc main_arg1))
          (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ?_) (run_main m ρ)
  refine ⟨?_, ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c)⟩
  refine ((h c).2 main_v4 (Pipeline.mem_restRefs_of main_v4 (by decide) (by decide))).trans ?_
  rw [tail_eq, final, V_main_v0, V_main_v1, V_main_v2, V_main_arg2]
  rfl

end Cert.KernelIdeal.Array

end
-- ==== Proof.lean ====
/-
  The certificate's proof: the frames of the three programs are generated; the kernel's run with its value is
  Proof/Array.lean's, the reference's is generated, and the two results agree at every index because both are the layer's
  entry there (Proof/Blocks.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.Blocks
public import proofs.«01_k».proof.Proof.Array

@[expose] public section

noncomputable section

namespace Cert.Proof

open Idealize.ShloMosaic Idealize.SL.Sem

/-- Kernel and reference compute the same function of the arguments. -/
theorem result_eq (x : Vec Ideal Cert.KernelIdeal.S192x1x8192 .fp8e4m3) (xs : Vec Ideal Cert.KernelIdeal.S192x1x1 .f32)
    (w : Vec Ideal Cert.KernelIdeal.S16384x8192 .fp8e4m3) (ws : Vec Ideal Cert.KernelIdeal.S16384 .f32) :
    Cert.ReferenceIdeal.Value.G4 (F := Ideal) x xs w ws = Cert.KernelIdeal.Array.result x xs w ws := by
  funext i
  obtain ⟨r, q, n, rfl⟩ : ∃ (r : Fin 192) (q : Fin 1) (n : Fin 16384), i = (ix3 r q n : Cert.KernelIdeal.S192x1x16384.Idx) :=
    ⟨i 0, i 1, i 2, eq_ix3 i⟩
  exact (plain_apply x w xs ws r q n).trans (Cert.KernelIdeal.Array.result_apply x xs w ws r q n).symm

/-- The algebraic claim: from memories that agree on the arguments, both programs end with `result` of them. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Array.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Array.run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3⟩ := hargs c
  rw [h0, h1, h2, h3]
  exact result_eq _ _ _ _

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
